-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S256x2x1024 Cert.KernelIdeal.S256x1x1024
  ∧ IdealRules.bf16_pair.PackStatement Cert.KernelIdeal.S256x1024
  ∧ IdealRules.bf16_pair.Statement Cert.KernelIdeal.S256x2x1024 Cert.KernelIdeal.S256x1x1024
  ∧ IdealRules.bf16_pair.Statement Cert.KernelIdeal.S1x2x1024 Cert.KernelIdeal.S1x1x1024
  ∧ IdealRules.bf16_pair.Statement Cert.KernelIdeal.S16x1024 Cert.KernelIdeal.S8x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6144x1x4096 : Shape := ⟨3, ![6144, 1, 4096]⟩
abbrev S2048x12288 : Shape := ⟨2, ![2048, 12288]⟩
abbrev S256x12288 : Shape := ⟨2, ![256, 12288]⟩
abbrev S_ : Shape := ⟨0, ![]⟩
abbrev S1 : Shape := ⟨1, ![1]⟩
abbrev S6144x4096 : Shape := ⟨2, ![6144, 4096]⟩
abbrev S6144x12288 : Shape := ⟨2, ![6144, 12288]⟩
abbrev S1024x4096 : Shape := ⟨2, ![1024, 4096]⟩
abbrev S2048x1024 : Shape := ⟨2, ![2048, 1024]⟩
abbrev S256x1024 : Shape := ⟨2, ![256, 1024]⟩
abbrev S1024x1024 : Shape := ⟨2, ![1024, 1024]⟩
abbrev S4096x1024 : Shape := ⟨2, ![4096, 1024]⟩
abbrev S128x1024 : Shape := ⟨2, ![128, 1024]⟩
abbrev S128x1x1024 : Shape := ⟨3, ![128, 1, 1024]⟩
abbrev S128x2x1024 : Shape := ⟨3, ![128, 2, 1024]⟩
abbrev S64x1024 : Shape := ⟨2, ![64, 1024]⟩
abbrev S1x1024 : Shape := ⟨2, ![1, 1024]⟩
abbrev S8x1024 : Shape := ⟨2, ![8, 1024]⟩
abbrev S16x1024 : Shape := ⟨2, ![16, 1024]⟩
abbrev S6144x1x12288 : Shape := ⟨3, ![6144, 1, 12288]⟩

abbrev nBuf : Space → Nat
  | .hbm => 8
  | .vmem => 10
  | .smem => 1
  | _ => 0

abbrev bufTy : (tb : Table) → Fin (tcTables nBuf tb) → BufTy
  | .hbm, ⟨0, _⟩ => ⟨S6144x1x4096, .bf16⟩
  | .hbm, ⟨1, _⟩ => ⟨S2048x12288, .i8⟩
  | .hbm, ⟨2, _⟩ => ⟨S256x12288, .fp8e4m3⟩
  | .hbm, ⟨3, _⟩ => ⟨S_, .f32⟩
  | .hbm, ⟨4, _⟩ => ⟨S1, .f32⟩
  | .hbm, ⟨5, _⟩ => ⟨S6144x4096, .bf16⟩
  | .hbm, ⟨6, _⟩ => ⟨S6144x12288, .bf16⟩
  | .hbm, ⟨7, _⟩ => ⟨S6144x1x12288, .bf16⟩
  | .local _ .vmem, ⟨0, _⟩ => ⟨S1024x4096, .bf16⟩
  | .local _ .vmem, ⟨1, _⟩ => ⟨S1024x4096, .bf16⟩
  | .local _ .vmem, ⟨2, _⟩ => ⟨S2048x1024, .i8⟩
  | .local _ .vmem, ⟨3, _⟩ => ⟨S2048x1024, .i8⟩
  | .local _ .vmem, ⟨4, _⟩ => ⟨S256x1024, .fp8e4m3⟩
  | .local _ .vmem, ⟨5, _⟩ => ⟨S256x1024, .fp8e4m3⟩
  | .local _ .vmem, ⟨6, _⟩ => ⟨S1024x1024, .bf16⟩
  | .local _ .vmem, ⟨7, _⟩ => ⟨S1024x1024, .bf16⟩
  | .local _ .vmem, ⟨8, _⟩ => ⟨S4096x1024, .bf16⟩
  | .local _ .vmem, ⟨9, _⟩ => ⟨S256x1024, .i32⟩
  | .local _ .smem, ⟨0, _⟩ => ⟨S1, .f32⟩
  | _, _ => ⟨S6144x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![12, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c16_i32 : BitVec 32 := 16#32
  let v20 : BitVec 32 := Scalar.addi c0_i32_12 c16_i32
  let c1_i32 : BitVec 32 := 1#32
  ⟨c0_i32_12, v20, c1_i32⟩
def k0_mult1 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c256_i32 : BitVec 32 := 256#32
  let v21 : BitVec 32 := Scalar.muli arg9 c256_i32
  v21
def k0_mult2 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c128_i32 : BitVec 32 := 128#32
  let v23 : BitVec 32 := Scalar.muli arg9 c128_i32
  v23
def k0_mult3 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c16_i32_14 : BitVec 32 := 16#32
  let v25 : BitVec 32 := Scalar.muli arg9 c16_i32_14
  v25
def k0_off1 (k0_t1 : Fin k0_t1_loop.trips) : Fin 2 → Nat :=
  let c0_i32_12 : BitVec 32 := 0#32
  let c1_i32 : BitVec 32 := 1#32
  let arg9 : BitVec 32 := Scf.iv c0_i32_12 c1_i32 k0_t1
  let c128_i32 : BitVec 32 := 128#32
  let v23 : BitVec 32 := Scalar.muli arg9 c128_i32
  let v24 : BitVec 32 := v23
  let v27 : Index := Scalar.indexCast v24
  let c0_15 : Index := 0#32
  ![v27.toNat, 0]
def k0_off2 (k0_t1 : Fin k0_t1_loop.trips) (c0_i32_18 : BitVec 32) : Fin 2 → Nat :=
  let c0_i32_12 : BitVec 32 := 0#32
  let c1_i32 : BitVec 32 := 1#32
  let arg9 : BitVec 32 := Scf.iv c0_i32_12 c1_i32 k0_t1
  let c16_i32_14 : BitVec 32 := 16#32
  let v25 : BitVec 32 := Scalar.muli arg9 c16_i32_14
  let v26 : BitVec 32 := v25
  let v50 : BitVec 32 := Scalar.addi v26 c0_i32_18
  let v51 : Index := Scalar.indexCast v50
  let c0_19 : Index := 0#32
  ![v51.toNat, 0]
def k0_off3 (k0_t1 : Fin k0_t1_loop.trips) (c0_i32_20 : BitVec 32) : Fin 2 → Nat :=
  let c0_i32_12 : BitVec 32 := 0#32
  let c1_i32 : BitVec 32 := 1#32
  let arg9 : BitVec 32 := Scf.iv c0_i32_12 c1_i32 k0_t1
  let c256_i32 : BitVec 32 := 256#32
  let v21 : BitVec 32 := Scalar.muli arg9 c256_i32
  let v22 : BitVec 32 := v21
  let v57 : BitVec 32 := Scalar.addi v22 c0_i32_20
  let v58 : Index := Scalar.indexCast v57
  let c0_21 : Index := 0#32
  ![v58.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S6144x1x4096 : Shape := ⟨3, ![6144, 1, 4096]⟩
abbrev S2048x12288 : Shape := ⟨2, ![2048, 12288]⟩
abbrev S256x12288 : Shape := ⟨2, ![256, 12288]⟩
abbrev S_ : Shape := ⟨0, ![]⟩
abbrev S1 : Shape := ⟨1, ![1]⟩
abbrev S6144x4096 : Shape := ⟨2, ![6144, 4096]⟩
abbrev S6144x12288 : Shape := ⟨2, ![6144, 12288]⟩
abbrev S1024x4096 : Shape := ⟨2, ![1024, 4096]⟩
abbrev S2048x1024 : Shape := ⟨2, ![2048, 1024]⟩
abbrev S256x1024 : Shape := ⟨2, ![256, 1024]⟩
abbrev S1024x1024 : Shape := ⟨2, ![1024, 1024]⟩
abbrev S4096x1024 : Shape := ⟨2, ![4096, 1024]⟩
abbrev S256x2x1024 : Shape := ⟨3, ![256, 2, 1024]⟩
abbrev S256x1x1024 : Shape := ⟨3, ![256, 1, 1024]⟩
abbrev S128x1024 : Shape := ⟨2, ![128, 1024]⟩
abbrev S128x1x1024 : Shape := ⟨3, ![128, 1, 1024]⟩
abbrev S128x2x1024 : Shape := ⟨3, ![128, 2, 1024]⟩
abbrev S64x1024 : Shape := ⟨2, ![64, 1024]⟩
abbrev S1x1024 : Shape := ⟨2, ![1, 1024]⟩
abbrev S1x2x1024 : Shape := ⟨3, ![1, 2, 1024]⟩
abbrev S1x1x1024 : Shape := ⟨3, ![1, 1, 1024]⟩
abbrev S8x1024 : Shape := ⟨2, ![8, 1024]⟩
abbrev S16x1024 : Shape := ⟨2, ![16, 1024]⟩
abbrev S6144x1x12288 : Shape := ⟨3, ![6144, 1, 12288]⟩

abbrev nBuf : Space → Nat
  | .hbm => 8
  | .vmem => 10
  | .smem => 1
  | _ => 0

abbrev bufTy : (tb : Table) → Fin (tcTables nBuf tb) → BufTy
  | .hbm, ⟨0, _⟩ => ⟨S6144x1x4096, .bf16⟩
  | .hbm, ⟨1, _⟩ => ⟨S2048x12288, .i8⟩
  | .hbm, ⟨2, _⟩ => ⟨S256x12288, .fp8e4m3⟩
  | .hbm, ⟨3, _⟩ => ⟨S_, .f32⟩
  | .hbm, ⟨4, _⟩ => ⟨S1, .f32⟩
  | .hbm, ⟨5, _⟩ => ⟨S6144x4096, .bf16⟩
  | .hbm, ⟨6, _⟩ => ⟨S6144x12288, .bf16⟩
  | .hbm, ⟨7, _⟩ => ⟨S6144x1x12288, .bf16⟩
  | .local _ .vmem, ⟨0, _⟩ => ⟨S1024x4096, .bf16⟩
  | .local _ .vmem, ⟨1, _⟩ => ⟨S1024x4096, .bf16⟩
  | .local _ .vmem, ⟨2, _⟩ => ⟨S2048x1024, .i8⟩
  | .local _ .vmem, ⟨3, _⟩ => ⟨S2048x1024, .i8⟩
  | .local _ .vmem, ⟨4, _⟩ => ⟨S256x1024, .fp8e4m3⟩
  | .local _ .vmem, ⟨5, _⟩ => ⟨S256x1024, .fp8e4m3⟩
  | .local _ .vmem, ⟨6, _⟩ => ⟨S1024x1024, .bf16⟩
  | .local _ .vmem, ⟨7, _⟩ => ⟨S1024x1024, .bf16⟩
  | .local _ .vmem, ⟨8, _⟩ => ⟨S4096x1024, .bf16⟩
  | .local _ .vmem, ⟨9, _⟩ => ⟨S256x2x1024, .bf16⟩
  | .local _ .smem, ⟨0, _⟩ => ⟨S1, .f32⟩
  | _, _ => ⟨S6144x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c16_i32 : BitVec 32 := 16#32
  let v20 : BitVec 32 := Scalar.addi c0_i32_12 c16_i32
  let c1_i32 : BitVec 32 := 1#32
  ⟨c0_i32_12, v20, c1_i32⟩
def k0_mult1 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c256_i32 : BitVec 32 := 256#32
  let v21 : BitVec 32 := Scalar.muli arg9 c256_i32
  v21
def k0_mult2 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c128_i32 : BitVec 32 := 128#32
  let v23 : BitVec 32 := Scalar.muli arg9 c128_i32
  v23
def k0_mult3 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c16_i32_14 : BitVec 32 := 16#32
  let v25 : BitVec 32 := Scalar.muli arg9 c16_i32_14
  v25
def k0_off1 (k0_t1 : Fin k0_t1_loop.trips) : Fin 2 → Nat :=
  let c0_i32_12 : BitVec 32 := 0#32
  let c1_i32 : BitVec 32 := 1#32
  let arg9 : BitVec 32 := Scf.iv c0_i32_12 c1_i32 k0_t1
  let c128_i32 : BitVec 32 := 128#32
  let v23 : BitVec 32 := Scalar.muli arg9 c128_i32
  let v24 : BitVec 32 := v23
  let v27 : Index := Scalar.indexCast v24
  let c0_15 : Index := 0#32
  ![v27.toNat, 0]
def k0_off2 (k0_t1 : Fin k0_t1_loop.trips) (c0_i32_18 : BitVec 32) : Fin 3 → Nat :=
  let c0_i32_12 : BitVec 32 := 0#32
  let c1_i32 : BitVec 32 := 1#32
  let arg9 : BitVec 32 := Scf.iv c0_i32_12 c1_i32 k0_t1
  let c16_i32_14 : BitVec 32 := 16#32
  let v25 : BitVec 32 := Scalar.muli arg9 c16_i32_14
  let v26 : BitVec 32 := v25
  let v50 : BitVec 32 := Scalar.addi v26 c0_i32_18
  let v51 : Index := Scalar.indexCast v50
  let c0_19 : Index := 0#32
  ![v51.toNat, 0, 0]
def k0_off3 (k0_t1 : Fin k0_t1_loop.trips) (c0_i32_20 : BitVec 32) : Fin 2 → Nat :=
  let c0_i32_12 : BitVec 32 := 0#32
  let c1_i32 : BitVec 32 := 1#32
  let arg9 : BitVec 32 := Scf.iv c0_i32_12 c1_i32 k0_t1
  let c256_i32 : BitVec 32 := 256#32
  let v21 : BitVec 32 := Scalar.muli arg9 c256_i32
  let v22 : BitVec 32 := v21
  let v57 : BitVec 32 := Scalar.addi v22 c0_i32_20
  let v58 : Index := Scalar.indexCast v57
  let c0_21 : Index := 0#32
  ![v58.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S6144x1x4096 : Shape := ⟨3, ![6144, 1, 4096]⟩
abbrev S2048x12288 : Shape := ⟨2, ![2048, 12288]⟩
abbrev S256x12288 : Shape := ⟨2, ![256, 12288]⟩
abbrev S_ : Shape := ⟨0, ![]⟩
abbrev S2 : Shape := ⟨1, ![2]⟩
abbrev S1x2048x12288 : Shape := ⟨3, ![1, 2048, 12288]⟩
abbrev S2x1x1 : Shape := ⟨3, ![2, 1, 1]⟩
abbrev S2x2048x12288 : Shape := ⟨3, ![2, 2048, 12288]⟩
abbrev S2x256x8x12288 : Shape := ⟨4, ![2, 256, 8, 12288]⟩
abbrev S1x256x1x12288 : Shape := ⟨4, ![1, 256, 1, 12288]⟩
abbrev S6144x2048x2 : Shape := ⟨3, ![6144, 2048, 2]⟩
abbrev S2x6144x2048 : Shape := ⟨3, ![2, 6144, 2048]⟩
abbrev S6144x12288 : Shape := ⟨2, ![6144, 12288]⟩
abbrev S6144x1x12288 : Shape := ⟨3, ![6144, 1, 12288]⟩

abbrev nBuf : Space → Nat
  | .hbm => 76
  | .vmem => 2
  | .smem => 0
  | _ => 0

abbrev bufTy : (tb : Table) → Fin (tcTables nBuf tb) → BufTy
  | .hbm, ⟨0, _⟩ => ⟨S6144x1x4096, .bf16⟩
  | .hbm, ⟨1, _⟩ => ⟨S2048x12288, .i8⟩
  | .hbm, ⟨2, _⟩ => ⟨S256x12288, .fp8e4m3⟩
  | .hbm, ⟨3, _⟩ => ⟨S_, .f32⟩
  | .hbm, ⟨4, _⟩ => ⟨S2, .i32⟩
  | .hbm, ⟨5, _⟩ => ⟨S2048x12288, .i32⟩
  | .hbm, ⟨6, _⟩ => ⟨S1x2048x12288, .i32⟩
  | .hbm, ⟨7, _⟩ => ⟨S2x1x1, .i32⟩
  | .hbm, ⟨8, _⟩ => ⟨S2x2048x12288, .i32⟩
  | .hbm, ⟨9, _⟩ => ⟨S2x2048x12288, .i32⟩
  | .hbm, ⟨10, _⟩ => ⟨S2x2048x12288, .i32⟩
  | .hbm, ⟨11, _⟩ => ⟨S_, .i32⟩
  | .hbm, ⟨12, _⟩ => ⟨S2x2048x12288, .i32⟩
  | .hbm, ⟨13, _⟩ => ⟨S2x2048x12288, .i32⟩
  | .hbm, ⟨14, _⟩ => ⟨S256x12288, .bf16⟩
  | .hbm, ⟨15, _⟩ => ⟨S_, .i32⟩
  | .hbm, ⟨16, _⟩ => ⟨S2x2048x12288, .i32⟩
  | .hbm, ⟨17, _⟩ => ⟨S2x2048x12288, .i32⟩
  | .hbm, ⟨18, _⟩ => ⟨S_, .i32⟩
  | .hbm, ⟨19, _⟩ => ⟨S2x2048x12288, .i32⟩
  | .hbm, ⟨20, _⟩ => ⟨S2x2048x12288, .i1⟩
  | .hbm, ⟨21, _⟩ => ⟨S_, .i32⟩
  | .hbm, ⟨22, _⟩ => ⟨S2x2048x12288, .i32⟩
  | .hbm, ⟨23, _⟩ => ⟨S2x2048x12288, .i32⟩
  | .hbm, ⟨24, _⟩ => ⟨S_, .i32⟩
  | .hbm, ⟨25, _⟩ => ⟨S2x2048x12288, .i32⟩
  | .hbm, ⟨26, _⟩ => ⟨S2x2048x12288, .i1⟩
  | .hbm, ⟨27, _⟩ => ⟨S_, .i32⟩
  | .hbm, ⟨28, _⟩ => ⟨S2x2048x12288, .i32⟩
  | .hbm, ⟨29, _⟩ => ⟨S2x2048x12288, .i32⟩
  | .hbm, ⟨30, _⟩ => ⟨S_, .i32⟩
  | .hbm, ⟨31, _⟩ => ⟨S2x2048x12288, .i32⟩
  | .hbm, ⟨32, _⟩ => ⟨S2x2048x12288, .i1⟩
  | .hbm, ⟨33, _⟩ => ⟨S_, .i32⟩
  | .hbm, ⟨34, _⟩ => ⟨S2x2048x12288, .i32⟩
  | .hbm, ⟨35, _⟩ => ⟨S2x2048x12288, .i32⟩
  | .hbm, ⟨36, _⟩ => ⟨S_, .i32⟩
  | .hbm, ⟨37, _⟩ => ⟨S2x2048x12288, .i32⟩
  | .hbm, ⟨38, _⟩ => ⟨S2x2048x12288, .i1⟩
  | .hbm, ⟨39, _⟩ => ⟨S_, .bf16⟩
  | .hbm, ⟨40, _⟩ => ⟨S_, .bf16⟩
  | .hbm, ⟨41, _⟩ => ⟨S2x2048x12288, .bf16⟩
  | .hbm, ⟨42, _⟩ => ⟨S2x2048x12288, .bf16⟩
  | .hbm, ⟨43, _⟩ => ⟨S2x2048x12288, .bf16⟩
  | .hbm, ⟨44, _⟩ => ⟨S_, .bf16⟩
  | .hbm, ⟨45, _⟩ => ⟨S_, .bf16⟩
  | .hbm, ⟨46, _⟩ => ⟨S2x2048x12288, .bf16⟩
  | .hbm, ⟨47, _⟩ => ⟨S2x2048x12288, .bf16⟩
  | .hbm, ⟨48, _⟩ => ⟨S2x2048x12288, .bf16⟩
  | .hbm, ⟨49, _⟩ => ⟨S2x2048x12288, .bf16⟩
  | .hbm, ⟨50, _⟩ => ⟨S_, .bf16⟩
  | .hbm, ⟨51, _⟩ => ⟨S_, .bf16⟩
  | .hbm, ⟨52, _⟩ => ⟨S2x2048x12288, .bf16⟩
  | .hbm, ⟨53, _⟩ => ⟨S2x2048x12288, .bf16⟩
  | .hbm, ⟨54, _⟩ => ⟨S2x2048x12288, .bf16⟩
  | .hbm, ⟨55, _⟩ => ⟨S_, .bf16⟩
  | .hbm, ⟨56, _⟩ => ⟨S_, .bf16⟩
  | .hbm, ⟨57, _⟩ => ⟨S2x2048x12288, .bf16⟩
  | .hbm, ⟨58, _⟩ => ⟨S2x2048x12288, .bf16⟩
  | .hbm, ⟨59, _⟩ => ⟨S2x2048x12288, .bf16⟩
  | .hbm, ⟨60, _⟩ => ⟨S2x2048x12288, .bf16⟩
  | .hbm, ⟨61, _⟩ => ⟨S2x2048x12288, .bf16⟩
  | .hbm, ⟨62, _⟩ => ⟨S2x2048x12288, .bf16⟩
  | .hbm, ⟨63, _⟩ => ⟨S2x2048x12288, .bf16⟩
  | .hbm, ⟨64, _⟩ => ⟨S2x256x8x12288, .bf16⟩
  | .hbm, ⟨65, _⟩ => ⟨S1x256x1x12288, .bf16⟩
  | .hbm, ⟨66, _⟩ => ⟨S2x256x8x12288, .bf16⟩
  | .hbm, ⟨67, _⟩ => ⟨S2x256x8x12288, .bf16⟩
  | .hbm, ⟨68, _⟩ => ⟨S2x2048x12288, .bf16⟩
  | .hbm, ⟨69, _⟩ => ⟨S6144x2048x2, .bf16⟩
  | .hbm, ⟨70, _⟩ => ⟨S2x6144x2048, .bf16⟩
  | .hbm, ⟨71, _⟩ => ⟨S6144x12288, .f32⟩
  | .hbm, ⟨72, _⟩ => ⟨S6144x12288, .f32⟩
  | .hbm, ⟨73, _⟩ => ⟨S6144x12288, .f32⟩
  | .hbm, ⟨74, _⟩ => ⟨S6144x12288, .bf16⟩
  | .hbm, ⟨75, _⟩ => ⟨S6144x1x12288, .bf16⟩
  | .local _ .vmem, ⟨0, _⟩ => ⟨S256x12288, .fp8e4m3⟩
  | .local _ .vmem, ⟨1, _⟩ => ⟨S256x12288, .bf16⟩
  | _, _ => ⟨S6144x1x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_v25 : Ref sig .tc := ⟨.hbm, 43, rfl⟩
abbrev main_cst_10 : Ref sig .tc := ⟨.hbm, 44, rfl⟩
abbrev main_cst_11 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_v27 : Ref sig .tc := ⟨.hbm, 49, rfl⟩
abbrev main_cst_12 : Ref sig .tc := ⟨.hbm, 50, rfl⟩
abbrev main_cst_13 : Ref sig .tc := ⟨.hbm, 51, rfl⟩
abbrev main_call3_v0 : Ref sig .tc := ⟨.hbm, 52, rfl⟩
abbrev main_call3_v1 : Ref sig .tc := ⟨.hbm, 53, rfl⟩
abbrev main_v28 : Ref sig .tc := ⟨.hbm, 54, rfl⟩
abbrev main_cst_14 : Ref sig .tc := ⟨.hbm, 55, rfl⟩
abbrev main_cst_15 : Ref sig .tc := ⟨.hbm, 56, rfl⟩
abbrev main_call4_v0 : Ref sig .tc := ⟨.hbm, 57, rfl⟩
abbrev main_call4_v1 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Decode.lean ====
/-
  The decoding of a packed four-bit weight, over the extended reals. A code's value is a signed magnitude from
  0, 1/2, 1, 3/2, 2, 3, 4, 6. The kernel reads a code as an eight-bit float 64 times smaller (`k0_pay3`), keeps each
  scale 64 times larger (`k0_pay1`), and multiplies a group's sixteen rows by the group's scale (`k0_pay4` … `k0_pay19`).
-/
module

public import proofs.«01_k».proof.Proof.Gen.KernelIdeal.Skeleton
public import Idealize.ShloMosaic.Lib.Pointwise
public import Idealize.ShloMosaic.Lib.BitcastFour
public import Idealize.ShloMosaic.Lib.Bf16Pair

@[expose] public section

set_option maxRecDepth 16384

noncomputable section

namespace Cert.Fp4

open Idealize.ShloMosaic Idealize.ShloMosaic.TcCoe Idealize.SL.Sem

/-- The magnitudes of the eight codes without the sign bit. -/
def mag (c : Nat) : ℝ :=
  match c with
  | 0 => 0
  | 1 => 1 / 2
  | 2 => 1
  | 3 => 3 / 2
  | 4 => 2
  | 5 => 3
  | 6 => 4
  | _ => 6

/-- The value of a four-bit code: the magnitude of its low three bits, negated when the top bit is set. -/
def val (c : BitVec 4) : ℝ := if c.getLsbD 3 then -mag (c.toNat % 8) else mag (c.toNat % 8)

/-- The code of row parity `p` in a byte: the low half for parity 0, the high half for parity 1. -/
def nib (b : BitVec 8) (p : Nat) : BitVec 4 := b.extractLsb' (4 * p) 4

/-- The eight-bit float pattern of a code: the sign on top, the magnitude's three bits at places 2, 3 and 4. -/
def pat (c : BitVec 4) : BitVec 8 := ((c.signExtend 8) <<< 2) &&& 0x9C#8

/-- The pattern of a code, read as an eight-bit float, is the code's value over 64. -/
theorem ofBits_pat (c : BitVec 4) : Ideal.ofBits .fp8e4m3 (pat c) = ((val c / 64 : ℝ) : EReal) := by
  have h16 : ∀ c : BitVec 4, c = 0#4 ∨ c = 1#4 ∨ c = 2#4 ∨ c = 3#4 ∨ c = 4#4 ∨ c = 5#4 ∨ c = 6#4 ∨ c = 7#4 ∨ c = 8#4 ∨ c = 9#4
      ∨ c = 10#4 ∨ c = 11#4 ∨ c = 12#4 ∨ c = 13#4 ∨ c = 14#4 ∨ c = 15#4 := by decide
  rcases h16 c with h | h | h | h | h | h | h | h | h | h | h | h | h | h | h | h <;> subst h <;>
    clear h16 <;> simp [pat, val, mag, Ideal.ofBits, Ideal.ieee, Ideal.e4m3fn, -EReal.coe_mul] <;> norm_num

/-- A code's value over 64, times a scale times 64, is the code's value times the scale. -/
theorem scaled (v : ℝ) (s : EReal) : ((v / 64 : ℝ) : EReal) * (s * ((64 : ℝ) : EReal)) = ((v : ℝ) : EReal) * s := by
  have h : ((v / 64 : ℝ) : EReal) * ((64 : ℝ) : EReal) = ((v : ℝ) : EReal) := by
    rw [← EReal.coe_mul]; congr 1; ring
  rw [mul_comm s, ← mul_assoc, h]

end Cert.Fp4

namespace Cert.KernelIdeal.Value

open Cert.KernelIdeal Cert.KernelIdeal.Gen
open Idealize.ShloMosaic Idealize.ShloMosaic.TcCoe Idealize.SL.Sem

/-- The bytes of a word block, after the word is shifted left by two and masked byte by byte, are the bytes shifted and
    masked: the mask keeps no bit that comes from the next byte down. -/
theorem bytes_apply (B : IVec S256x1024 8) (r : Fin 256) (l : Fin 1024) :
    (bitcast S256x1024 8
        (andi (shli (bitcast S64x1024 32 B bitcasts_S256x1024_w8_S64x1024_w32) (broadcast S64x1024 2#32))
          (broadcast S64x1024 2627509404#32)) bitcasts_S64x1024_w32_S256x1024_w8) (ix2 r l)
      = ((B (ix2 r l)) <<< 2) &&& 0x9C#8 := by
  have hr := r.isLt
  apply BitVec.eq_of_getLsbD_eq
  intro q hq
  rw [bitcast_getLsbD _ _ _ q hq (by decide)]
  have hsrc : ∀ p hp, (bitcasts_S64x1024_w32_S256x1024_w8).srcIdx (ix2 r l) p hp = ix2 ⟨p, hp 0 rfl⟩ l := by
    intro p hp
    funext a
    match a with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [hsrc]
  show (andi (shli (bitcast S64x1024 32 B bitcasts_S256x1024_w8_S64x1024_w32) (broadcast S64x1024 2#32))
          (broadcast S64x1024 2627509404#32) (ix2 (⟨(r.val * 8 + q) / 32, by omega⟩ : Fin 64) l)).getLsbD ((r.val * 8 + q) % 32) = _
  have e1 : (r.val * 8 + q) / 32 = r.val / 4 := by omega
  have e2 : (r.val * 8 + q) % 32 = 8 * (r.val % 4) + q := by omega
  have hm : ∀ p < 4, ∀ q < 8, (2627509404#32 : BitVec 32).getLsbD (8 * p + q) = (0x9C#8 : BitVec 8).getLsbD q := by decide
  have hm' : ∀ q < 2, (0x9C#8 : BitVec 8).getLsbD q = false := by decide
  rw [e2]
  show (IntOp.andi (IntOp.shli .vector _ 2#32) 2627509404#32).getLsbD _ = _
  simp only [IntOp.andi, BitVec.getLsbD_and, hm (r.val % 4) (by omega) q hq]
  by_cases h2 : q < 2
  · simp [hm' q h2]
  · congr 1
    show (IntOp.shli .vector (bitcast S64x1024 32 B bitcasts_S256x1024_w8_S64x1024_w32 (ix2 ⟨(r.val * 8 + q) / 32, _⟩ l)) 2#32).getLsbD _ = _
    have hs : ∀ x : BitVec 32, IntOp.shli .vector x 2#32 = x <<< 2 := fun x => by simp [IntOp.shli]
    rw [hs, BitVec.getLsbD_shiftLeft, BitVec.getLsbD_shiftLeft]
    have hb := bitcast_8_32_getLsbD_ix2 B bitcasts_S256x1024_w8_S64x1024_w32 ⟨(r.val * 8 + q) / 32, by omega⟩ l
      (8 * (r.val % 4) + q - 2) (by omega) r (by show r.val = 4 * ((r.val * 8 + q) / 32) + (8 * (r.val % 4) + q - 2) / 8; omega)
    have e3 : (8 * (r.val % 4) + q - 2) % 8 = q - 2 := by omega
    rw [e3] at hb
    have c1 : decide (8 * (r.val % 4) + q < 32) = true := by simp; omega
    have c2 : decide (8 * (r.val % 4) + q < 2) = false := by simp; omega
    have c3 : decide (q < 8) = true := by simp [hq]
    have c4 : decide (q < 2) = false := by simp; omega
    simp only [c1, c2, c3, c4, Bool.not_false, Bool.true_and]
    exact hb

/-- The codes' rows before they are packed into words: row `r` is the low half (even `r`) or the high half (odd `r`) of byte row `r / 2`,
    with its sign spread over the byte. -/
theorem pay3_apply (v28 : Vec Ideal S128x1024 .i8) (r : Fin 256) (l : Fin 1024) :
    k0_pay3 v28 (ix2 r l)
      = ((Cert.Fp4.val (Cert.Fp4.nib (v28 (ix2 ⟨r.val / 2, by have := r.isLt; omega⟩ l)) (r.val % 2)) / 64 : ℝ) : EReal) := by
  rw [← Cert.Fp4.ofBits_pat]
  unfold k0_pay3
  refine congrArg (Ideal.ofBits .fp8e4m3) ((bytes_apply _ r l).trans ?_)
  pointwise
  have h0 : ∀ b : BitVec 8, BitVec.setWidth 8 (IntOp.shrsi .vector (IntOp.shli .vector (BitVec.setWidth 32 b) 28#32) 28#32) <<< 2 &&& 156#8
      = Cert.Fp4.pat (Cert.Fp4.nib b 0) := by decide +kernel
  have h1 : ∀ b : BitVec 8, BitVec.setWidth 8 (IntOp.shrsi .vector (IntOp.shli .vector (BitVec.setWidth 32 b) 24#32) 28#32) <<< 2 &&& 156#8
      = Cert.Fp4.pat (Cert.Fp4.nib b 1) := by decide +kernel
  rcases Nat.mod_two_eq_zero_or_one r.val with h | h
  · simp only [h]; exact h0 _
  · simp only [h]; exact h1 _

/-- Both rows of a scale pair hold 64 times the scale. -/
theorem pay1_apply (v12 : Vec Ideal S256x1024 .fp8e4m3) (r : Fin 256) (p : Fin 2) (l : Fin 1024) :
    k0_pay1 v12 (ix3 r p l) = v12 (ix2 r l) * ((64 : ℝ) : EReal) := by
  pointwise [k0_pay1]
  have h64 : Ideal.ofBits FTy.f32 1115684864#32 = ((64 : ℝ) : EReal) := by
    simp [Ideal.ofBits, Ideal.ieee, -EReal.coe_mul]; norm_num
  rw [ite_self, h64]

/-- A choice between a pair's two rows by a row's parity is the pair's row of that parity. -/
theorem ite_rows (raw : Vec Ideal S1x2x1024 .bf16) (n : Nat) (l : Fin 1024) :
    (if n % 2 = 0 then raw (ix3 0 0 l) else raw (ix3 0 1 l)) = raw (ix3 0 ⟨n % 2, by omega⟩ l) := by
  rcases Nat.mod_two_eq_zero_or_one n with h | h <;> simp [h]

/-- Group 0's rows of a trip: the decoded row times the scale pair's row of its parity. -/
theorem pay4_apply (v28 : Vec Ideal S128x1024 .i8) (raw : Vec Ideal S1x2x1024 .bf16) (r : Fin 16) (l : Fin 1024) :
    k0_pay4 v28 raw (ix2 r l)
      = k0_pay3 v28 (ix2 ⟨0 + r.val, by omega⟩ l) * raw (ix3 0 ⟨r.val % 2, by omega⟩ l) := by
  pointwise [k0_pay4]
  simp only [dite_eq_ite, ite_self]
  exact congrArg _ (ite_rows raw _ l)

/-- Group 1's rows of a trip: the decoded row times the scale pair's row of its parity. -/
theorem pay5_apply (v49 : FVec Ideal S256x1024 .bf16) (raw : Vec Ideal S1x2x1024 .bf16) (r : Fin 16) (l : Fin 1024) :
    k0_pay5 v49 raw (ix2 r l) = v49 (ix2 ⟨16 + r.val, by omega⟩ l) * raw (ix3 0 ⟨r.val % 2, by omega⟩ l) := by
  pointwise [k0_pay5]
  simp only [dite_eq_ite, ite_self]
  exact congrArg _ (ite_rows raw _ l)

/-- Group 2's rows of a trip: the decoded row times the scale pair's row of its parity. -/
theorem pay6_apply (v49 : FVec Ideal S256x1024 .bf16) (raw : Vec Ideal S1x2x1024 .bf16) (r : Fin 16) (l : Fin 1024) :
    k0_pay6 v49 raw (ix2 r l) = v49 (ix2 ⟨32 + r.val, by omega⟩ l) * raw (ix3 0 ⟨r.val % 2, by omega⟩ l) := by
  pointwise [k0_pay6]
  simp only [dite_eq_ite, ite_self]
  exact congrArg _ (ite_rows raw _ l)

/-- Group 3's rows of a trip: the decoded row times the scale pair's row of its parity. -/
theorem pay7_apply (v49 : FVec Ideal S256x1024 .bf16) (raw : Vec Ideal S1x2x1024 .bf16) (r : Fin 16) (l : Fin 1024) :
    k0_pay7 v49 raw (ix2 r l) = v49 (ix2 ⟨48 + r.val, by omega⟩ l) * raw (ix3 0 ⟨r.val % 2, by omega⟩ l) := by
  pointwise [k0_pay7]
  simp only [dite_eq_ite, ite_self]
  exact congrArg _ (ite_rows raw _ l)

/-- Group 4's rows of a trip: the decoded row times the scale pair's row of its parity. -/
theorem pay8_apply (v49 : FVec Ideal S256x1024 .bf16) (raw : Vec Ideal S1x2x1024 .bf16) (r : Fin 16) (l : Fin 1024) :
    k0_pay8 v49 raw (ix2 r l) = v49 (ix2 ⟨64 + r.val, by omega⟩ l) * raw (ix3 0 ⟨r.val % 2, by omega⟩ l) := by
  pointwise [k0_pay8]
  simp only [dite_eq_ite, ite_self]
  exact congrArg _ (ite_rows raw _ l)

/-- Group 5's rows of a trip: the decoded row times the scale pair's row of its parity. -/
theorem pay9_apply (v49 : FVec Ideal S256x1024 .bf16) (raw : Vec Ideal S1x2x1024 .bf16) (r : Fin 16) (l : Fin 1024) :
    k0_pay9 v49 raw (ix2 r l) = v49 (ix2 ⟨80 + r.val, by omega⟩ l) * raw (ix3 0 ⟨r.val % 2, by omega⟩ l) := by
  pointwise [k0_pay9]
  simp only [dite_eq_ite, ite_self]
  exact congrArg _ (ite_rows raw _ l)

/-- Group 6's rows of a trip: the decoded row times the scale pair's row of its parity. -/
theorem pay10_apply (v49 : FVec Ideal S256x1024 .bf16) (raw : Vec Ideal S1x2x1024 .bf16) (r : Fin 16) (l : Fin 1024) :
    k0_pay10 v49 raw (ix2 r l) = v49 (ix2 ⟨96 + r.val, by omega⟩ l) * raw (ix3 0 ⟨r.val % 2, by omega⟩ l) := by
  pointwise [k0_pay10]
  simp only [dite_eq_ite, ite_self]
  exact congrArg _ (ite_rows raw _ l)

/-- Group 7's rows of a trip: the decoded row times the scale pair's row of its parity. -/
theorem pay11_apply (v49 : FVec Ideal S256x1024 .bf16) (raw : Vec Ideal S1x2x1024 .bf16) (r : Fin 16) (l : Fin 1024) :
    k0_pay11 v49 raw (ix2 r l) = v49 (ix2 ⟨112 + r.val, by omega⟩ l) * raw (ix3 0 ⟨r.val % 2, by omega⟩ l) := by
  pointwise [k0_pay11]
  simp only [dite_eq_ite, ite_self]
  exact congrArg _ (ite_rows raw _ l)

/-- Group 8's rows of a trip: the decoded row times the scale pair's row of its parity. -/
theorem pay12_apply (v49 : FVec Ideal S256x1024 .bf16) (raw : Vec Ideal S1x2x1024 .bf16) (r : Fin 16) (l : Fin 1024) :
    k0_pay12 v49 raw (ix2 r l) = v49 (ix2 ⟨128 + r.val, by omega⟩ l) * raw (ix3 0 ⟨r.val % 2, by omega⟩ l) := by
  pointwise [k0_pay12]
  simp only [dite_eq_ite, ite_self]
  exact congrArg _ (ite_rows raw _ l)

/-- Group 9's rows of a trip: the decoded row times the scale pair's row of its parity. -/
theorem pay13_apply (v49 : FVec Ideal S256x1024 .bf16) (raw : Vec Ideal S1x2x1024 .bf16) (r : Fin 16) (l : Fin 1024) :
    k0_pay13 v49 raw (ix2 r l) = v49 (ix2 ⟨144 + r.val, by omega⟩ l) * raw (ix3 0 ⟨r.val % 2, by omega⟩ l) := by
  pointwise [k0_pay13]
  simp only [dite_eq_ite, ite_self]
  exact congrArg _ (ite_rows raw _ l)

/-- Group 10's rows of a trip: the decoded row times the scale pair's row of its parity. -/
theorem pay14_apply (v49 : FVec Ideal S256x1024 .bf16) (raw : Vec Ideal S1x2x1024 .bf16) (r : Fin 16) (l : Fin 1024) :
    k0_pay14 v49 raw (ix2 r l) = v49 (ix2 ⟨160 + r.val, by omega⟩ l) * raw (ix3 0 ⟨r.val % 2, by omega⟩ l) := by
  pointwise [k0_pay14]
  simp only [dite_eq_ite, ite_self]
  exact congrArg _ (ite_rows raw _ l)

/-- Group 11's rows of a trip: the decoded row times the scale pair's row of its parity. -/
theorem pay15_apply (v49 : FVec Ideal S256x1024 .bf16) (raw : Vec Ideal S1x2x1024 .bf16) (r : Fin 16) (l : Fin 1024) :
    k0_pay15 v49 raw (ix2 r l) = v49 (ix2 ⟨176 + r.val, by omega⟩ l) * raw (ix3 0 ⟨r.val % 2, by omega⟩ l) := by
  pointwise [k0_pay15]
  simp only [dite_eq_ite, ite_self]
  exact congrArg _ (ite_rows raw _ l)

/-- Group 12's rows of a trip: the decoded row times the scale pair's row of its parity. -/
theorem pay16_apply (v49 : FVec Ideal S256x1024 .bf16) (raw : Vec Ideal S1x2x1024 .bf16) (r : Fin 16) (l : Fin 1024) :
    k0_pay16 v49 raw (ix2 r l) = v49 (ix2 ⟨192 + r.val, by omega⟩ l) * raw (ix3 0 ⟨r.val % 2, by omega⟩ l) := by
  pointwise [k0_pay16]
  simp only [dite_eq_ite, ite_self]
  exact congrArg _ (ite_rows raw _ l)

/-- Group 13's rows of a trip: the decoded row times the scale pair's row of its parity. -/
theorem pay17_apply (v49 : FVec Ideal S256x1024 .bf16) (raw : Vec Ideal S1x2x1024 .bf16) (r : Fin 16) (l : Fin 1024) :
    k0_pay17 v49 raw (ix2 r l) = v49 (ix2 ⟨208 + r.val, by omega⟩ l) * raw (ix3 0 ⟨r.val % 2, by omega⟩ l) := by
  pointwise [k0_pay17]
  simp only [dite_eq_ite, ite_self]
  exact congrArg _ (ite_rows raw _ l)

/-- Group 14's rows of a trip: the decoded row times the scale pair's row of its parity. -/
theorem pay18_apply (v49 : FVec Ideal S256x1024 .bf16) (raw : Vec Ideal S1x2x1024 .bf16) (r : Fin 16) (l : Fin 1024) :
    k0_pay18 v49 raw (ix2 r l) = v49 (ix2 ⟨224 + r.val, by omega⟩ l) * raw (ix3 0 ⟨r.val % 2, by omega⟩ l) := by
  pointwise [k0_pay18]
  simp only [dite_eq_ite, ite_self]
  exact congrArg _ (ite_rows raw _ l)

/-- Group 15's rows of a trip: the decoded row times the scale pair's row of its parity. -/
theorem pay19_apply (v49 : FVec Ideal S256x1024 .bf16) (raw : Vec Ideal S1x2x1024 .bf16) (r : Fin 16) (l : Fin 1024) :
    k0_pay19 v49 raw (ix2 r l) = v49 (ix2 ⟨240 + r.val, by omega⟩ l) * raw (ix3 0 ⟨r.val % 2, by omega⟩ l) := by
  pointwise [k0_pay19]
  simp only [dite_eq_ite, ite_self]
  exact congrArg _ (ite_rows raw _ l)

/-- A point's output block: the row of `x` times the column of decoded weights, summed, times the global scale. -/
theorem pay2_apply (x : Vec Ideal S1024x4096 .bf16) (w : Vec Ideal S4096x1024 .bf16) (g : Elt Ideal .f32) (r : Fin 1024) (l : Fin 1024) :
    k0_pay2 x w g (ix2 r l) = (∑ k : Fin 4096, x (ix2 r k) * w (ix2 k l)) * g := by
  pointwise [k0_pay2]

end Cert.KernelIdeal.Value

end
-- ==== Proof.Trip.lean ====
/-
  What the kernel's first point of each column block leaves in its weight scratch. A trip of the decoding loop stores sixteen groups of
  sixteen rows; every one of them holds the decoded weights of its rows (`trip_pieces`), so the loop's pieces do
  (`pb_pieces`), and the scratch holds the decoded weights of the whole column block (`sout_A`). The blocks the body
  writes out are then closed terms of the point's input blocks and the scratch (`out_A`, `out_B`).
-/
module

public import proofs.«01_k».proof.Proof.Decode
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem

/-- The decoded weights of a column block: row `k` is the code of byte row `k / 2` at parity `k % 2`, times the scale of
    its group of sixteen rows. -/
def blockW (X2 : Vec Ideal S2048x1024 .i8) (X3 : Vec Ideal S256x1024 .fp8e4m3) : S4096x1024.Idx → EReal := fun y =>
  ((Cert.Fp4.val (Cert.Fp4.nib (X2 (ix2 (⟨(y 0).val / 2, by have : (y 0).val < 4096 := (y 0).isLt; omega⟩ : Fin 2048) (y 1))) ((y 0).val % 2)) : ℝ) : EReal)
    * X3 (ix2 (⟨(y 0).val / 16, by have : (y 0).val < 4096 := (y 0).isLt; omega⟩ : Fin 256) (y 1))

/-- One group of a trip: the decoded rows `16 g …` of the trip's 256 rows, times the group's scale, are the decoded
    weights of rows `256 k + 16 g …` of the column block. -/
theorem group_eq (X2 : Vec Ideal S2048x1024 .i8) (X3 : Vec Ideal S256x1024 .fp8e4m3) (P : Vec Ideal S256x2x1024 .bf16)
    (hP : ∀ r p l, P (ix3 r p l) = X3 (ix2 r l) * ((64 : ℝ) : EReal)) (k g : Nat) (hk : k < 16) (hg : g < 16)
    (o1 : Fin 2 → Nat) (e1 : o1 = ![128 * k, 0]) (o2 : Fin 3 → Nat) (e2 : o2 = ![16 * k + g, 0, 0])
    (o3 : Fin 2 → Nat) (e3 : o3 = ![256 * k + 16 * g, 0])
    (h1 : ∀ a, o1 a + S128x1024.size a ≤ S2048x1024.size a) (h2 : ∀ a, o2 a + S1x2x1024.size a ≤ S256x2x1024.size a)
    (h3 : ∀ a, o3 a + S16x1024.size a ≤ S4096x1024.size a) (r : Fin 16) (l : Fin 1024) :
    k0_pay3 (View.ld X2 (Rect.unit (s := S2048x1024) o1 S128x1024.size h1)) (ix2 ⟨16 * g + r.val, by omega⟩ l)
        * View.ld P (Rect.unit (s := S256x2x1024) o2 S1x2x1024.size h2) (ix3 0 ⟨r.val % 2, by omega⟩ l)
      = blockW X2 X3 ((Rect.unit (s := S4096x1024) o3 S16x1024.size h3).emb (ix2 r l)) := by
  subst e1 e2 e3
  have hA : (Rect.unit (s := S4096x1024) ![256 * k + 16 * g, 0] S16x1024.size h3).emb (ix2 r l)
      = (ix2 (⟨256 * k + 16 * g + r.val, by omega⟩ : Fin 4096) l : S4096x1024.Idx) := by
    funext a
    match a with
    | ⟨0, _⟩ => exact Fin.ext (by simp [Rect.emb, Rect.unit, ix2])
    | ⟨1, _⟩ => exact Fin.ext (by simp [Rect.emb, Rect.unit, ix2])
  have hB : View.ld P (Rect.unit (s := S256x2x1024) ![16 * k + g, 0, 0] S1x2x1024.size h2) (ix3 0 ⟨r.val % 2, by omega⟩ l)
      = X3 (ix2 (⟨16 * k + g, by omega⟩ : Fin 256) l) * ((64 : ℝ) : EReal) := by
    rw [← hP (⟨16 * k + g, by omega⟩ : Fin 256) ⟨r.val % 2, by omega⟩ l]
    pointwise
  have hC : View.ld X2 (Rect.unit (s := S2048x1024) ![128 * k, 0] S128x1024.size h1) (ix2 (⟨(16 * g + r.val) / 2, by omega⟩ : Fin 128) l)
      = X2 (ix2 (⟨128 * k + (16 * g + r.val) / 2, by omega⟩ : Fin 2048) l) := by
    pointwise
  rw [hA, hB, pay3_apply]
  dsimp only
  rw [hC, Cert.Fp4.scaled]
  show _ = ((Cert.Fp4.val (Cert.Fp4.nib (X2 (ix2 (⟨(256 * k + 16 * g + r.val) / 2, by omega⟩ : Fin 2048) l)) ((256 * k + 16 * g + r.val) % 2)) : ℝ) : EReal)
    * X3 (ix2 (⟨(256 * k + 16 * g + r.val) / 16, by omega⟩ : Fin 256) l)
  have q1 : 128 * k + (16 * g + r.val) / 2 = (256 * k + 16 * g + r.val) / 2 := by omega
  have q2 : (16 * g + r.val) % 2 = (256 * k + 16 * g + r.val) % 2 := by omega
  have q3 : 16 * k + g = (256 * k + 16 * g + r.val) / 16 := by omega
  simp only [q1, q2, q3]

/-- Every piece a trip stores holds the decoded weights of its rows. -/
theorem trip_pieces (𝒱 : Variants) (c : Dev nD) (bd : Option 𝒱.V) (i : grid0.Coords) (arg2 : Memref sig .tc .smem S1 .f32) (harg2 : arg2.IsWhole) (arg3 : Memref sig .tc .vmem S1024x4096 .bf16) (harg3 : arg3.IsWhole) (arg4 : Memref sig .tc .vmem S2048x1024 .i8) (harg4 : arg4.IsWhole)
    (arg5 : Memref sig .tc .vmem S256x1024 .fp8e4m3) (harg5 : arg5.IsWhole) (arg6 : Memref sig .tc .vmem S1024x1024 .bf16) (harg6 : arg6.IsWhole) (arg7 : Memref sig .tc .vmem S4096x1024 .bf16) (harg7 : arg7.IsWhole)
    (arg8 : Memref sig .tc .vmem S256x2x1024 .bf16) (harg8 : arg8.IsWhole)
    (k0_h1 : k0_cond1 i = 1#1) (X4 : BufTy.Contents (Elt Ideal) arg4.view.ty) (X8 : BufTy.Contents (Elt Ideal) arg8.view.ty) (k : Fin k0_t1_loop.trips)
    (X2 : Vec Ideal S2048x1024 .i8) (X3 : Vec Ideal S256x1024 .fp8e4m3) (h4 : arg4.view.read (Elt Ideal) X4 = X2)
    (h8 : ∀ r p l, arg8.view.read (Elt Ideal) X8 (ix3 r p l) = X3 (ix2 r l) * ((64 : ℝ) : EReal)) :
    ∀ p ∈ tripL_k0_t1 (F := Ideal) 𝒱 c bd i arg2 harg2 arg3 harg3 arg4 harg4 arg5 harg5 arg6 harg6 arg7 harg7 arg8 harg8 k0_h1 X4 X8 k,
      ∀ x, p.2 x = blockW X2 X3 (p.1.emb x) := by
  have hk : k.val < 16 := Nat.lt_of_lt_of_le k.isLt k0_t1_abs.2.1
  have e1 := k0_off1_eq k
  subst h4
  unfold tripL_k0_t1 trip_k0_t1
  sl_unfold_run_names
  simp only [List.mem_cons, List.not_mem_nil, or_false, forall_eq_or_imp, forall_eq]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_⟩
  · obtain ⟨r, l, rfl⟩ : ∃ (r : Fin 16) (l : Fin 1024), x = ix2 r l := ⟨x 0, x 1, (ix2_eta x).symm⟩
    exact (pay19_apply _ _ r l).trans (group_eq _ X3 _ h8 k.val 15 hk (by omega) _ e1 _ (k0_off2_eq k 15) _ (k0_off3_eq k 15) _ _ _ r l)
  · obtain ⟨r, l, rfl⟩ : ∃ (r : Fin 16) (l : Fin 1024), x = ix2 r l := ⟨x 0, x 1, (ix2_eta x).symm⟩
    exact (pay18_apply _ _ r l).trans (group_eq _ X3 _ h8 k.val 14 hk (by omega) _ e1 _ (k0_off2_eq k 14) _ (k0_off3_eq k 14) _ _ _ r l)
  · obtain ⟨r, l, rfl⟩ : ∃ (r : Fin 16) (l : Fin 1024), x = ix2 r l := ⟨x 0, x 1, (ix2_eta x).symm⟩
    exact (pay17_apply _ _ r l).trans (group_eq _ X3 _ h8 k.val 13 hk (by omega) _ e1 _ (k0_off2_eq k 13) _ (k0_off3_eq k 13) _ _ _ r l)
  · obtain ⟨r, l, rfl⟩ : ∃ (r : Fin 16) (l : Fin 1024), x = ix2 r l := ⟨x 0, x 1, (ix2_eta x).symm⟩
    exact (pay16_apply _ _ r l).trans (group_eq _ X3 _ h8 k.val 12 hk (by omega) _ e1 _ (k0_off2_eq k 12) _ (k0_off3_eq k 12) _ _ _ r l)
  · obtain ⟨r, l, rfl⟩ : ∃ (r : Fin 16) (l : Fin 1024), x = ix2 r l := ⟨x 0, x 1, (ix2_eta x).symm⟩
    exact (pay15_apply _ _ r l).trans (group_eq _ X3 _ h8 k.val 11 hk (by omega) _ e1 _ (k0_off2_eq k 11) _ (k0_off3_eq k 11) _ _ _ r l)
  · obtain ⟨r, l, rfl⟩ : ∃ (r : Fin 16) (l : Fin 1024), x = ix2 r l := ⟨x 0, x 1, (ix2_eta x).symm⟩
    exact (pay14_apply _ _ r l).trans (group_eq _ X3 _ h8 k.val 10 hk (by omega) _ e1 _ (k0_off2_eq k 10) _ (k0_off3_eq k 10) _ _ _ r l)
  · obtain ⟨r, l, rfl⟩ : ∃ (r : Fin 16) (l : Fin 1024), x = ix2 r l := ⟨x 0, x 1, (ix2_eta x).symm⟩
    exact (pay13_apply _ _ r l).trans (group_eq _ X3 _ h8 k.val 9 hk (by omega) _ e1 _ (k0_off2_eq k 9) _ (k0_off3_eq k 9) _ _ _ r l)
  · obtain ⟨r, l, rfl⟩ : ∃ (r : Fin 16) (l : Fin 1024), x = ix2 r l := ⟨x 0, x 1, (ix2_eta x).symm⟩
    exact (pay12_apply _ _ r l).trans (group_eq _ X3 _ h8 k.val 8 hk (by omega) _ e1 _ (k0_off2_eq k 8) _ (k0_off3_eq k 8) _ _ _ r l)
  · obtain ⟨r, l, rfl⟩ : ∃ (r : Fin 16) (l : Fin 1024), x = ix2 r l := ⟨x 0, x 1, (ix2_eta x).symm⟩
    exact (pay11_apply _ _ r l).trans (group_eq _ X3 _ h8 k.val 7 hk (by omega) _ e1 _ (k0_off2_eq k 7) _ (k0_off3_eq k 7) _ _ _ r l)
  · obtain ⟨r, l, rfl⟩ : ∃ (r : Fin 16) (l : Fin 1024), x = ix2 r l := ⟨x 0, x 1, (ix2_eta x).symm⟩
    exact (pay10_apply _ _ r l).trans (group_eq _ X3 _ h8 k.val 6 hk (by omega) _ e1 _ (k0_off2_eq k 6) _ (k0_off3_eq k 6) _ _ _ r l)
  · obtain ⟨r, l, rfl⟩ : ∃ (r : Fin 16) (l : Fin 1024), x = ix2 r l := ⟨x 0, x 1, (ix2_eta x).symm⟩
    exact (pay9_apply _ _ r l).trans (group_eq _ X3 _ h8 k.val 5 hk (by omega) _ e1 _ (k0_off2_eq k 5) _ (k0_off3_eq k 5) _ _ _ r l)
  · obtain ⟨r, l, rfl⟩ : ∃ (r : Fin 16) (l : Fin 1024), x = ix2 r l := ⟨x 0, x 1, (ix2_eta x).symm⟩
    exact (pay8_apply _ _ r l).trans (group_eq _ X3 _ h8 k.val 4 hk (by omega) _ e1 _ (k0_off2_eq k 4) _ (k0_off3_eq k 4) _ _ _ r l)
  · obtain ⟨r, l, rfl⟩ : ∃ (r : Fin 16) (l : Fin 1024), x = ix2 r l := ⟨x 0, x 1, (ix2_eta x).symm⟩
    exact (pay7_apply _ _ r l).trans (group_eq _ X3 _ h8 k.val 3 hk (by omega) _ e1 _ (k0_off2_eq k 3) _ (k0_off3_eq k 3) _ _ _ r l)
  · obtain ⟨r, l, rfl⟩ : ∃ (r : Fin 16) (l : Fin 1024), x = ix2 r l := ⟨x 0, x 1, (ix2_eta x).symm⟩
    exact (pay6_apply _ _ r l).trans (group_eq _ X3 _ h8 k.val 2 hk (by omega) _ e1 _ (k0_off2_eq k 2) _ (k0_off3_eq k 2) _ _ _ r l)
  · obtain ⟨r, l, rfl⟩ : ∃ (r : Fin 16) (l : Fin 1024), x = ix2 r l := ⟨x 0, x 1, (ix2_eta x).symm⟩
    exact (pay5_apply _ _ r l).trans (group_eq _ X3 _ h8 k.val 1 hk (by omega) _ e1 _ (k0_off2_eq k 1) _ (k0_off3_eq k 1) _ _ _ r l)
  · obtain ⟨r, l, rfl⟩ : ∃ (r : Fin 16) (l : Fin 1024), x = ix2 r l := ⟨x 0, x 1, (ix2_eta x).symm⟩
    exact (pay4_apply _ _ r l).trans (group_eq _ X3 _ h8 k.val 0 hk (by omega) _ e1 _ (k0_off2_eq k 0) _ (k0_off3_eq k 0) _ _ _ r l)

/-- Every piece the loop's first `n` trips store holds the decoded weights of its rows. -/
theorem pb_pieces (𝒱 : Variants) (c : Dev nD) (bd : Option 𝒱.V) (i : grid0.Coords) (arg2 : Memref sig .tc .smem S1 .f32) (harg2 : arg2.IsWhole) (arg3 : Memref sig .tc .vmem S1024x4096 .bf16) (harg3 : arg3.IsWhole) (arg4 : Memref sig .tc .vmem S2048x1024 .i8) (harg4 : arg4.IsWhole)
    (arg5 : Memref sig .tc .vmem S256x1024 .fp8e4m3) (harg5 : arg5.IsWhole) (arg6 : Memref sig .tc .vmem S1024x1024 .bf16) (harg6 : arg6.IsWhole) (arg7 : Memref sig .tc .vmem S4096x1024 .bf16) (harg7 : arg7.IsWhole)
    (arg8 : Memref sig .tc .vmem S256x2x1024 .bf16) (harg8 : arg8.IsWhole)
    (k0_h1 : k0_cond1 i = 1#1) (X4 : BufTy.Contents (Elt Ideal) arg4.view.ty) (X8 : BufTy.Contents (Elt Ideal) arg8.view.ty)
    (X2 : Vec Ideal S2048x1024 .i8) (X3 : Vec Ideal S256x1024 .fp8e4m3) (h4 : arg4.view.read (Elt Ideal) X4 = X2)
    (h8 : ∀ r p l, arg8.view.read (Elt Ideal) X8 (ix3 r p l) = X3 (ix2 r l) * ((64 : ℝ) : EReal)) (n : Nat) (hn : n ≤ k0_t1_loop.trips) :
    ∀ p ∈ pb_k0_t1 (F := Ideal) 𝒱 c bd i arg2 harg2 arg3 harg3 arg4 harg4 arg5 harg5 arg6 harg6 arg7 harg7 arg8 harg8 k0_h1 X4 X8 n,
      ∀ x, p.2 x = blockW X2 X3 (p.1.emb x) := by
  induction n with
  | zero => intro p hp; exact absurd hp List.not_mem_nil
  | succ n ih =>
    intro p hp
    rw [pb_k0_t1_succ (F := Ideal) 𝒱 c bd i arg2 harg2 arg3 harg3 arg4 harg4 arg5 harg5 arg6 harg6 arg7 harg7 arg8 harg8 k0_h1 X4 X8 ⟨n, hn⟩, List.mem_append] at hp
    rcases hp with hp | hp
    · exact trip_pieces 𝒱 c bd i arg2 harg2 arg3 harg3 arg4 harg4 arg5 harg5 arg6 harg6 arg7 harg7 arg8 harg8 k0_h1 X4 X8 ⟨n, hn⟩ X2 X3 h4 h8 p hp
    · exact ih (Nat.le_of_succ_le hn) p hp

/-- The scale pairs stored whole, read back. -/
theorem scales_read (arg8 : Memref sig .tc .vmem S256x2x1024 .bf16) (x3 : Vec Ideal S256x1024 .fp8e4m3) (r : Fin 256) (p : Fin 2) (l : Fin 1024) :
    arg8.view.read (Elt Ideal) (arg8.view.writes (Elt Ideal) arg8.view.junk
      [⟨Rect.unit ![0, 0, 0] S256x2x1024.size inb_S256x2x1024_S256x2x1024_0_0_0, k0_pay1 x3⟩]) (ix3 r p l)
      = x3 (ix2 r l) * ((64 : ℝ) : EReal) := by
  rw [← pay1_apply x3 r p l]
  rw [View.read_writes_junk_eq_canon]
  exact congrFun (View.canon_cons_unit_lit _ _ _ (by decide)) _

/-- What the loop leaves in the weight scratch, read back whole. -/
theorem loop_read (i : grid0.Coords) (arg2 : Memref sig .tc .smem S1 .f32) (harg2 : arg2.IsWhole) (arg3 : Memref sig .tc .vmem S1024x4096 .bf16) (harg3 : arg3.IsWhole) (arg4 : Memref sig .tc .vmem S2048x1024 .i8) (harg4 : arg4.IsWhole)
    (arg5 : Memref sig .tc .vmem S256x1024 .fp8e4m3) (harg5 : arg5.IsWhole) (arg6 : Memref sig .tc .vmem S1024x1024 .bf16) (harg6 : arg6.IsWhole) (arg7 : Memref sig .tc .vmem S4096x1024 .bf16) (harg7 : arg7.IsWhole)
    (arg8 : Memref sig .tc .vmem S256x2x1024 .bf16) (harg8 : arg8.IsWhole) (c : Dev nD)
    (k0_h1 : k0_cond1 i = 1#1) (X4 : BufTy.Contents (Elt Ideal) arg4.view.ty) (X8 : BufTy.Contents (Elt Ideal) arg8.view.ty)
    (x2 : Vec Ideal S2048x1024 .i8) (x3 : Vec Ideal S256x1024 .fp8e4m3) (h4 : arg4.view.read (Elt Ideal) X4 = x2)
    (h8 : ∀ r p l, arg8.view.read (Elt Ideal) X8 (ix3 r p l) = x3 (ix2 r l) * ((64 : ℝ) : EReal)) (v : View sig .tc .vmem S4096x1024 .bf16) (f) :
    v.read (Elt Ideal) (v.writes (Elt Ideal) f
      (pb_k0_t1 (F := Ideal) Variants.none c none i arg2 harg2 arg3 harg3 arg4 harg4 arg5 harg5 arg6 harg6 arg7 harg7 arg8 harg8 k0_h1 X4 X8 (Scf.trips k0_t1_loop.lb k0_t1_loop.ub k0_t1_loop.st)))
      = blockW x2 x3 := by
  funext y
  refine View.read_writes_apply_of_pieces v f (blockW x2 x3) _
    (pb_pieces Variants.none c none i arg2 harg2 arg3 harg3 arg4 harg4 arg5 harg5 arg6 harg6 arg7 harg7 arg8 harg8 k0_h1 X4 X8 x2 x3 h4 h8 _ le_rfl) y ?_
  exact View.cover_of_tiledL (pb_k0_t1 (F := Ideal) Variants.none c none i arg2 harg2 arg3 harg3 arg4 harg4 arg5 harg5 arg6 harg6 arg7 harg7 arg8 harg8 k0_h1 X4 X8 (Scf.trips k0_t1_loop.lb k0_t1_loop.ub k0_t1_loop.st)) S16x1024.size (by sl_kernel_rfl) y

/-- At the first point of a column block the weight scratch ends with the block's decoded weights. -/
theorem sout_A (c : Dev nD) (i : grid0.Coords) (arg2 : Memref sig .tc .smem S1 .f32) (harg2 : arg2.IsWhole) (arg3 : Memref sig .tc .vmem S1024x4096 .bf16) (harg3 : arg3.IsWhole) (arg4 : Memref sig .tc .vmem S2048x1024 .i8) (harg4 : arg4.IsWhole)
    (arg5 : Memref sig .tc .vmem S256x1024 .fp8e4m3) (harg5 : arg5.IsWhole) (arg6 : Memref sig .tc .vmem S1024x1024 .bf16) (harg6 : arg6.IsWhole) (arg7 : Memref sig .tc .vmem S4096x1024 .bf16) (harg7 : arg7.IsWhole)
    (arg8 : Memref sig .tc .vmem S256x2x1024 .bf16) (harg8 : arg8.IsWhole) (hc0 : cond0_0 i)
    (x0 : Vec Ideal S1 .f32) (x1 : Vec Ideal S1024x4096 .bf16) (x2 : Vec Ideal S2048x1024 .i8) (x3 : Vec Ideal S256x1024 .fp8e4m3) :
    sout0_A_0 c i arg2 harg2 arg3 harg3 arg4 harg4 arg5 harg5 arg6 harg6 arg7 harg7 arg8 harg8 hc0 x0 x1 x2 x3 = blockW x2 x3 := by
  unfold sout0_A_0 kernelRun0_A
  sl_unfold_run_names
  have e5 : View.readAt (Elt Ideal) arg5.view (Rect.unit ![0, 0] S256x1024.size inb_S256x1024_S256x1024_0_0).toLoadRect (harg5.unread x3) = x3 := by
    rw [View.readAt_eq_ld, harg5.read_unread]
    exact View.ld_unit_lit _ _ (by decide)
  exact loop_read i arg2 harg2 arg3 harg3 arg4 harg4 arg5 harg5 arg6 harg6 arg7 harg7 arg8 harg8 c hc0 _ _ x2 x3 (harg4.read_unread x2) (fun r p l => (scales_read arg8 _ r p l).trans (by rw [e5])) _ _

/-- At the first point of a column block the output block is the payload over the decoded weights just stored. -/
theorem out_A (c : Dev nD) (i : grid0.Coords) (arg2 : Memref sig .tc .smem S1 .f32) (harg2 : arg2.IsWhole) (arg3 : Memref sig .tc .vmem S1024x4096 .bf16) (harg3 : arg3.IsWhole) (arg4 : Memref sig .tc .vmem S2048x1024 .i8) (harg4 : arg4.IsWhole)
    (arg5 : Memref sig .tc .vmem S256x1024 .fp8e4m3) (harg5 : arg5.IsWhole) (arg6 : Memref sig .tc .vmem S1024x1024 .bf16) (harg6 : arg6.IsWhole) (arg7 : Memref sig .tc .vmem S4096x1024 .bf16) (harg7 : arg7.IsWhole)
    (arg8 : Memref sig .tc .vmem S256x2x1024 .bf16) (harg8 : arg8.IsWhole) (hc0 : cond0_0 i)
    (x0 : Vec Ideal S1 .f32) (x1 : Vec Ideal S1024x4096 .bf16) (x2 : Vec Ideal S2048x1024 .i8) (x3 : Vec Ideal S256x1024 .fp8e4m3) :
    out0_A_4 c i arg2 harg2 arg3 harg3 arg4 harg4 arg5 harg5 arg6 harg6 arg7 harg7 arg8 harg8 hc0 x0 x1 x2 x3
      = k0_pay2 x1 (blockW x2 x3) (x0 (ix1 0)) := by
  frame_out
  have e0 : View.ld x0 (Rect.unit ![0] ![1] inb_S1_S1_0) (Shape.Idx.first (by decide)) = x0 (ix1 0) := by
    pointwise
  refine congrArg₂ (k0_pay2 x1) ?_ e0
  refine (View.ld_unit_lit inb_S4096x1024_S4096x1024_0_0 (View.read (Elt Ideal) arg7.view (arg7.view.writes (Elt Ideal) arg7.view.junk _)) (by decide)).trans ?_
  exact loop_read i arg2 harg2 arg3 harg3 arg4 harg4 arg5 harg5 arg6 harg6 arg7 harg7 arg8 harg8 c hc0 _ _ x2 x3 (harg4.read_unread x2) (scales_read arg8 x3) _ _

/-- At a later point of a column block the output block is the payload over the weight scratch as it was. -/
theorem out_B (c : Dev nD) (i : grid0.Coords) (arg2 : Memref sig .tc .smem S1 .f32) (harg2 : arg2.IsWhole) (arg3 : Memref sig .tc .vmem S1024x4096 .bf16) (harg3 : arg3.IsWhole) (arg4 : Memref sig .tc .vmem S2048x1024 .i8) (harg4 : arg4.IsWhole)
    (arg5 : Memref sig .tc .vmem S256x1024 .fp8e4m3) (harg5 : arg5.IsWhole) (arg6 : Memref sig .tc .vmem S1024x1024 .bf16) (harg6 : arg6.IsWhole) (arg7 : Memref sig .tc .vmem S4096x1024 .bf16) (harg7 : arg7.IsWhole)
    (arg8 : Memref sig .tc .vmem S256x2x1024 .bf16) (harg8 : arg8.IsWhole) (hc0 : ¬ cond0_0 i)
    (x0 : Vec Ideal S1 .f32) (x1 : Vec Ideal S1024x4096 .bf16) (x2 : Vec Ideal S2048x1024 .i8) (x3 : Vec Ideal S256x1024 .fp8e4m3) (xs0 : Vec Ideal S4096x1024 .bf16) :
    out0_B_4 c i arg2 harg2 arg3 harg3 arg4 harg4 arg5 harg5 arg6 harg6 arg7 harg7 arg8 harg8 hc0 x0 x1 x2 x3 xs0
      = k0_pay2 x1 xs0 (x0 (ix1 0)) := by
  frame_out
  have e0 : View.ld x0 (Rect.unit ![0] ![1] inb_S1_S1_0) (Shape.Idx.first (by decide)) = x0 (ix1 0) := by
    pointwise
  exact congrArg (k0_pay2 x1 xs0) e0

end Cert.KernelIdeal.Value

end
-- ==== Proof.Array.lean ====
/-
  The array the kernel's region leaves: at row `r` and column `n`, the sum over the 4096 contraction rows of `x` times the
  decoded weight, times the global scale (`final`). The weight scratch carried between points holds, after the point at
  position `n`, the decoded weights of column block `n / 6` (`carried`).
-/
module

public import proofs.«01_k».proof.Proof.Trip

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- The decoded weight at contraction row `k` and column `n`: the code of byte row `k / 2` at parity `k % 2`, times the
    scale of the group of sixteen rows `k` lies in. -/
def weight (P : Vec Ideal S2048x12288 .i8) (S : Vec Ideal S256x12288 .fp8e4m3) (k : Fin 4096) (n : Fin 12288) : EReal :=
  ((Cert.Fp4.val (Cert.Fp4.nib (P (ix2 (⟨k.val / 2, by omega⟩ : Fin 2048) n)) (k.val % 2)) : ℝ) : EReal)
    * S (ix2 (⟨k.val / 16, by omega⟩ : Fin 256) n)

/-- The linear layer's element at row `r` and column `n`. -/
def lin (X : Vec Ideal S6144x1x4096 .bf16) (P : Vec Ideal S2048x12288 .i8) (S : Vec Ideal S256x12288 .fp8e4m3) (g : EReal) (r : Fin 6144) (n : Fin 12288) : EReal :=
  (∑ k : Fin 4096, X (ix3 r 0 k) * weight P S k n) * g

variable (m : (ℓ : Loc nD τ sig) → Buf (Elt Ideal) ℓ)

/-- Which block of its array each window holds at point `t`. -/
theorem idx (t : Fin cfg0.N) : win0_0.index t = ![0] ∧ win0_1.index t = ![t.val % 6, 0] ∧ win0_2.index t = ![0, t.val / 6]
    ∧ win0_3.index t = ![0, t.val / 6] ∧ win0_4.index t = ![t.val % 6, t.val / 6] :=
  (by decide +kernel : ∀ t : Fin grid0.N, win0_0.index t = ![0] ∧ win0_1.index t = ![t.val % 6, 0] ∧ win0_2.index t = ![0, t.val / 6]
    ∧ win0_3.index t = ![0, t.val / 6] ∧ win0_4.index t = ![t.val % 6, t.val / 6]) t

/-- The region's input operand is the input with its middle axis of size one dropped. -/
theorem Vx (c : Dev nD) : V m c main_v1 = fun y : S6144x4096.Idx => m ((c : Thread nD τ).loc main_arg0) (ix3 (y 0) 0 (y 1)) := by
  funext y
  entry_read
  simp only [List.flatten_cons, List.flatten_nil, List.append_nil]
  entry_read
  pointwise

/-- The region's first operand holds the global scale at its one place. -/
theorem Vg (c : Dev nD) : V m c main_v0 = fun y : S1.Idx => m ((c : Thread nD τ).loc main_arg3) ix0 := by
  funext y
  entry_read
  simp only [List.flatten_cons, List.flatten_nil, List.append_nil]
  entry_read
  pointwise

/-- The packed codes' block at point `t` is column block `t / 6`. -/
theorem iblk2 (c : Dev nD) (t : Fin cfg0.N) (r : Fin 2048) (l : Fin 1024) :
    iblk m c 2 t (ix2 r l) = m ((c : Thread nD τ).loc main_arg1) (ix2 r (⟨t.val / 6 * 1024 + l.val, by have : t.val < 72 := t.isLt; omega⟩ : Fin 12288)) := by
  obtain ⟨e0, e1, e2, e3, e4⟩ := idx t
  blk_simp [iblk]
  rw [V_main_arg1 m c]
  refine congrArg (m ((c : Thread nD τ).loc main_arg1)) ?_
  blk_ext [e2]

/-- The scales' block at point `t` is column block `t / 6`. -/
theorem iblk3 (c : Dev nD) (t : Fin cfg0.N) (r : Fin 256) (l : Fin 1024) :
    iblk m c 3 t (ix2 r l) = m ((c : Thread nD τ).loc main_arg2) (ix2 r (⟨t.val / 6 * 1024 + l.val, by have : t.val < 72 := t.isLt; omega⟩ : Fin 12288)) := by
  obtain ⟨e0, e1, e2, e3, e4⟩ := idx t
  blk_simp [iblk]
  rw [V_main_arg2 m c]
  refine congrArg (m ((c : Thread nD τ).loc main_arg2)) ?_
  blk_ext [e3]

/-- The input's block at point `t` is row block `t % 6`. -/
theorem iblk1 (c : Dev nD) (t : Fin cfg0.N) (r : Fin 1024) (k : Fin 4096) :
    iblk m c 1 t (ix2 r k) = m ((c : Thread nD τ).loc main_arg0) (ix3 (⟨t.val % 6 * 1024 + r.val, by omega⟩ : Fin 6144) 0 k) := by
  obtain ⟨e0, e1, e2, e3, e4⟩ := idx t
  blk_simp [iblk]
  rw [Vx m c]
  blk_simp []
  refine congrArg (m ((c : Thread nD τ).loc main_arg0)) ?_
  blk_ext [e1]

/-- The global scale's block at every point. -/
theorem iblk0 (c : Dev nD) (t : Fin cfg0.N) :
    iblk m c 0 t (ix1 0) = m ((c : Thread nD τ).loc main_arg3) ix0 := by
  obtain ⟨e0, e1, e2, e3, e4⟩ := idx t
  blk_simp [iblk]
  rw [Vg m c]

/-- The decoded block of point `t`, read from the whole arrays. -/
theorem blockW_at (c : Dev nD) (t : Fin cfg0.N) (k : Fin 4096) (l : Fin 1024) :
    blockW (iblk m c 2 t) (iblk m c 3 t) (ix2 k l)
      = weight (m ((c : Thread nD τ).loc main_arg1)) (m ((c : Thread nD τ).loc main_arg2)) k
          (⟨t.val / 6 * 1024 + l.val, by have : t.val < 72 := t.isLt; omega⟩ : Fin 12288) := by
  show ((Cert.Fp4.val (Cert.Fp4.nib (iblk m c 2 t (ix2 (⟨k.val / 2, _⟩ : Fin 2048) l)) (k.val % 2)) : ℝ) : EReal)
      * iblk m c 3 t (ix2 (⟨k.val / 16, _⟩ : Fin 256) l) = _
  rw [iblk2, iblk3]
  rfl

/-- Two points of one column block decode the same block. -/
theorem blockW_congr (c : Dev nD) (s t : Fin cfg0.N) (h : s.val / 6 = t.val / 6) :
    blockW (iblk m c 2 s) (iblk m c 3 s) = blockW (iblk m c 2 t) (iblk m c 3 t) := by
  have hh : ∀ (k : Fin 4096) (l : Fin 1024), blockW (iblk m c 2 s) (iblk m c 3 s) (ix2 k l)
      = blockW (iblk m c 2 t) (iblk m c 3 t) (ix2 k l) := by
    intro k l
    rw [blockW_at, blockW_at]
    congr 1
    exact Fin.ext (by show s.val / 6 * 1024 + _ = t.val / 6 * 1024 + _; rw [h])
  funext y
  have := hh (y 0) (y 1)
  rwa [ix2_eta] at this

/-- The weight scratch after a point: the decoded block of that point's column block. -/
theorem carried (c : Dev nD) (n : ℕ) (hn : n < cfg0.N) :
    (outsAt0 m c n hn).2 = blockW (iblk m c 2 ⟨n, hn⟩) (iblk m c 3 ⟨n, hn⟩) := by
  induction n with
  | zero =>
    have e := outsAt0_A m c ⟨0, hn⟩ (by rfl)
    exact (congrArg Prod.snd e).trans (sout_A ..)
  | succ n ih =>
    by_cases h : (n + 1) % 6 = 0
    · have e := outsAt0_A m c ⟨n + 1, hn⟩ h
      exact (congrArg Prod.snd e).trans (sout_A ..)
    · have e := outsAt0_B m c ⟨n + 1, hn⟩ h
      refine (congrArg Prod.snd e).trans ?_
      have hn' : n < cfg0.N := by omega
      refine Eq.trans (b := (outsAt0 m c n hn').2) rfl ((ih hn').trans (blockW_congr m c ⟨n, hn'⟩ ⟨n + 1, hn⟩ ?_))
      show n / 6 = (n + 1) / 6
      omega

/-- The output block of a point: its input block times the decoded block, times the global scale. -/
theorem block_out (c : Dev nD) (t : Fin cfg0.N) :
    (outsAt0 m c t.val t.isLt).1
      = k0_pay2 (iblk m c 1 t) (blockW (iblk m c 2 t) (iblk m c 3 t)) (iblk m c 0 t (ix1 0)) := by
  by_cases h : t.val % 6 = 0
  · refine (congrArg Prod.fst (outsAt0_A m c t h)).trans ?_
    dsimp only
    rw [out_A]
  · have e := outsAt0_B m c t h
    have h1 : t.val - 1 < cfg0.N := by have := t.isLt; omega
    refine (congrArg Prod.fst e).trans ?_
    dsimp only
    rw [out_B]
    refine congrArg (fun w => k0_pay2 (iblk m c 1 t) w (iblk m c 0 t (ix1 0))) ?_
    refine (carried m c (t.val - 1) h1).trans (blockW_congr m c ⟨t.val - 1, h1⟩ t ?_)
    show (t.val - 1) / 6 = t.val / 6
    omega

/-- The output block of a point at its row `r` and column `l`. -/
theorem block_out_at (c : Dev nD) (t : Fin cfg0.N) (r l : Fin 1024) :
    k0_pay2 (iblk m c 1 t) (blockW (iblk m c 2 t) (iblk m c 3 t)) (iblk m c 0 t (ix1 0)) (ix2 r l)
      = lin (m ((c : Thread nD τ).loc main_arg0)) (m ((c : Thread nD τ).loc main_arg1)) (m ((c : Thread nD τ).loc main_arg2))
          (m ((c : Thread nD τ).loc main_arg3) ix0) (⟨t.val % 6 * 1024 + r.val, by omega⟩ : Fin 6144)
          (⟨t.val / 6 * 1024 + l.val, by have : t.val < 72 := t.isLt; omega⟩ : Fin 12288) := by
  rw [pay2_apply]
  simp only [iblk1, iblk0, blockW_at]
  rfl

/-- The array the region leaves. -/
theorem final (c : Dev nD) : (dats m 0 c).arrAt 4 cfg0.N = fun i : S6144x12288.Idx =>
    lin (m ((c : Thread nD τ).loc main_arg0)) (m ((c : Thread nD τ).loc main_arg1)) (m ((c : Thread nD τ).loc main_arg2))
      (m ((c : Thread nD τ).loc main_arg3) ix0) (i 0) (i 1) := by
  refine (dats m 0 c).arrAt_eq_of_covers 4 _ (by decide +kernel) fun t hf y => ?_
  obtain ⟨e0, e1, e2, e3, e4⟩ := idx t
  blk_simp
  rw [after0_4, block_out]
  have hp := block_out_at m c t (y 0) (y 1)
  rw [ix2_eta] at hp
  refine hp.trans ?_
  refine congrArg₂ (lin _ _ _ _) (Fin.ext ?_) (Fin.ext ?_)
  · blk_simp [e4]
  · blk_simp [e4]

end Cert.KernelIdeal.Value

end
-- ==== Proof.Ref.lean ====
/-
  The reference's result at row `r` and column `n`, over its argument arrays (`ref_run`).
-/
module

public import proofs.«01_k».proof.Proof.Decode
public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- The magnitude the reference selects by a code word's three low bits. -/
def magW (w : BitVec 32) : EReal :=
  Scalar.select (IntOp.cmpi CmpIPredicate.ne (IntOp.andi w 4#32) 0#32) (Scalar.select (IntOp.cmpi CmpIPredicate.ne (IntOp.andi w 2#32) 0#32) (Scalar.select (IntOp.cmpi CmpIPredicate.ne (IntOp.andi w 1#32) 0#32) (Ideal.ofBits FTy.bf16 16576#16) (Ideal.ofBits FTy.bf16 16512#16)) (Scalar.select (IntOp.cmpi CmpIPredicate.ne (IntOp.andi w 1#32) 0#32) (Ideal.ofBits FTy.bf16 16448#16) (Ideal.ofBits FTy.bf16 16384#16))) (Scalar.select (IntOp.cmpi CmpIPredicate.ne (IntOp.andi w 2#32) 0#32) (Scalar.select (IntOp.cmpi CmpIPredicate.ne (IntOp.andi w 1#32) 0#32) (Ideal.ofBits FTy.bf16 16320#16) (1)) (Scalar.select (IntOp.cmpi CmpIPredicate.ne (IntOp.andi w 1#32) 0#32) (Ideal.ofBits FTy.bf16 16128#16) (0)))

/-- The value the reference selects by a code word's four bits. -/
def valW (w : BitVec 32) : EReal :=
  Scalar.select (IntOp.cmpi CmpIPredicate.ne (IntOp.andi w 8#32) 0#32) (-magW w) (magW w)

/-- The nested selections of a code's word are the code's value. -/
theorem valW_eq (c : BitVec 4) : valW (c.setWidth 32) = ((Cert.Fp4.val c : ℝ) : EReal) := by
  have h16 : ∀ c : BitVec 4, c = 0#4 ∨ c = 1#4 ∨ c = 2#4 ∨ c = 3#4 ∨ c = 4#4 ∨ c = 5#4 ∨ c = 6#4 ∨ c = 7#4 ∨ c = 8#4 ∨ c = 9#4
      ∨ c = 10#4 ∨ c = 11#4 ∨ c = 12#4 ∨ c = 13#4 ∨ c = 14#4 ∨ c = 15#4 := by decide
  rcases h16 c with h | h | h | h | h | h | h | h | h | h | h | h | h | h | h | h <;> subst h <;>
    clear h16 <;> simp [valW, magW, Scalar.select, IntOp.cmpi, IntOp.andi, Cert.Fp4.val, Cert.Fp4.mag, Ideal.ofBits, Ideal.ieee, -EReal.coe_mul] <;> norm_num

/-- The region's result: the scales, each the extended real it reads as. -/
theorem region (c : Dev nD) : (dats m 0 c).arrAt 1 cfg0.N = m ((c : Thread nD τ).loc main_arg2) := by
  refine (dats m 0 c).arrAt_eq_of_covers 1 _ (by decide +kernel) fun t hf y => ?_
  obtain ⟨e0, e1⟩ : win0_0.index t = ![0, 0] ∧ win0_1.index t = ![0, 0] :=
    (by decide +kernel : ∀ t : Fin grid0.N, win0_0.index t = ![0, 0] ∧ win0_1.index t = ![0, 0]) t
  blk_simp
  rw [after0_1]
  frame_out
  show iblk m c 0 t y = _
  blk_simp [iblk]
  rw [V_main_arg2 m c]
  refine congrArg (m ((c : Thread nD τ).loc main_arg2)) ?_
  blk_ext [e0, e1]

/-- A byte's word shifted right by the parity's four bits and masked is the parity's nibble. -/
theorem word (b : BitVec 8) (t : Fin 2) :
    IntOp.andi (IntOp.shrsi ArithUnit.host (BitVec.setWidth 32 b) (lit0 (S2.rowMajor (ix1 t)))) 15#32
      = (Cert.Fp4.nib b t.val).setWidth 32 := by
  have hl : lit0 (S2.rowMajor (ix1 t)) = BitVec.ofNat 32 (4 * t.val) := by
    revert t; decide +kernel
  rw [hl]
  revert t b; decide +kernel

/-- The code words the lines before the region leave: at parity `t`, row `k` and column `n`, that byte's nibble. -/
theorem codes (c : Dev nD) (t : Fin 2) (k : Fin 2048) (n : Fin 12288) :
    V0 m c (Proc.devRef .tc main_v7) (ix3 t k n)
      = (Cert.Fp4.nib (m ((c : Thread nD τ).loc main_arg1) (ix2 k n)) t.val).setWidth 32 := by
  show StableHlo.after hostOps0 (fun b => m (c, b)) (Proc.devRef .tc main_v7) (ix3 t k n) = _
  entry_read
  pointwise
  exact word (m ((c : Thread nD τ).loc main_arg1) (ix2 k n)) t

/-- The linear layer's element at row `r` and column `n`: the sum over the 4096 contraction rows of `x` times the decoded
    weight (the code of byte row `k / 2` at parity `k % 2`, times the scale of row `k`'s group of sixteen), times the global
    scale. -/
def lin (X : Vec Ideal S6144x1x4096 .bf16) (P : Vec Ideal S2048x12288 .i8) (S : Vec Ideal S256x12288 .bf16) (g : EReal) (r : Fin 6144) (n : Fin 12288) : EReal :=
  (∑ k : Fin 4096, X (ix3 r 0 k)
    * (((Cert.Fp4.val (Cert.Fp4.nib (P (ix2 (⟨k.val / 2, by omega⟩ : Fin 2048) n)) (k.val % 2)) : ℝ) : EReal)
      * S (ix2 (⟨k.val / 16, by omega⟩ : Fin 256) n))) * g

/-- The same element with the contraction axis split by parity, the code's value as the reference selects it. -/
def split (X : Vec Ideal S6144x1x4096 .bf16) (w : Vec Ideal S2x2048x12288 .i32) (S : Vec Ideal S256x12288 .bf16) (g : EReal) (r : Fin 6144) (n : Fin 12288) : EReal :=
  (∑ x : Fin 2048, ∑ s : Fin 2, X (ix3 r 0 (⟨x.val * 2 + s.val, by omega⟩ : Fin 4096))
    * (valW (w (ix3 s (⟨x.val / 8 * 8 + x.val % 8, by omega⟩ : Fin 2048) n)) * S (ix2 (⟨x.val / 8, by omega⟩ : Fin 256) n))) * g

/-- The split contraction is the contraction over row `2 k + s`. -/
theorem split_eq (X : Vec Ideal S6144x1x4096 .bf16) (w : Vec Ideal S2x2048x12288 .i32) (S : Vec Ideal S256x12288 .bf16) (g : EReal)
    (P : Vec Ideal S2048x12288 .i8)
    (hw : ∀ (t : Fin 2) (k : Fin 2048) (n : Fin 12288), w (ix3 t k n) = (Cert.Fp4.nib (P (ix2 k n)) t.val).setWidth 32)
    (r : Fin 6144) (n : Fin 12288) : split X w S g r n = lin X P S g r n := by
  unfold split lin
  simp only [hw, valW_eq]
  congr 1
  symm
  refine Fin.sum_divmod_congr fun k ha hs => ?_
  have e1 : (⟨k.val / 2 * 2 + k.val % 2, by omega⟩ : Fin 4096) = k := Fin.ext (by show k.val / 2 * 2 + k.val % 2 = k.val; omega)
  have e2 : (⟨k.val / 2 / 8 * 8 + k.val / 2 % 8, by omega⟩ : Fin 2048) = ⟨k.val / 2, ha⟩ :=
    Fin.ext (by show k.val / 2 / 8 * 8 + k.val / 2 % 8 = k.val / 2; omega)
  have e3 : (⟨k.val / 2 / 8, by omega⟩ : Fin 256) = ⟨k.val / 16, by omega⟩ := Fin.ext (by show k.val / 2 / 8 = k.val / 16; omega)
  dsimp only
  rw [e1, e2, e3]

set_option maxHeartbeats 2000000 in
/-- What the lines after the region compute from any contents `W` whose code words are the nibbles of `P`: at row `r` and
    column `n`, the sum over the 4096 contraction rows, times the global scale. -/
theorem tail_at (W : Valuation τ sig (Elt Ideal)) (P : Vec Ideal S2048x12288 .i8)
    (hW : ∀ (t : Fin 2) (k : Fin 2048) (n : Fin 12288), W (Proc.devRef .tc main_v7) (ix3 t k n) = (Cert.Fp4.nib (P (ix2 k n)) t.val).setWidth 32)
    (r : Fin 6144) (n : Fin 12288) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13]) W (Proc.devRef .tc main_v45) (ix3 r 0 n)
      = lin (W (Proc.devRef .tc main_arg0)) P (W (Proc.devRef .tc main_v8)) (W (Proc.devRef .tc main_arg3) ix0) r n := by
  refine Eq.trans ?_ (split_eq (W (Proc.devRef .tc main_arg0)) (W (Proc.devRef .tc main_v7)) (W (Proc.devRef .tc main_v8)) (W (Proc.devRef .tc main_arg3) ix0) P hW r n)
  simp only [hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append,
    StableHlo.after_cons, StableHlo.after_nil]
  after_results_simp
  after_results_loop
  simp -implicitDefEqProofs only [StableHlo.TRef.toBuf, StableHlo.TRef.ofBuf, cast_cast, cast_eq]
  pointwise
  rfl

/-- The reference's result array. -/
theorem result (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13] c main_v45 = fun y : S6144x1x12288.Idx =>
    lin (m ((c : Thread nD τ).loc main_arg0)) (m ((c : Thread nD τ).loc main_arg1)) (m ((c : Thread nD τ).loc main_arg2))
      (m ((c : Thread nD τ).loc main_arg3) ix0) (y 0) (y 2) := by
  have hh : ∀ (r : Fin 6144) (n : Fin 12288),
      Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13] c main_v45 (ix3 r 0 n)
        = lin (m ((c : Thread nD τ).loc main_arg0)) (m ((c : Thread nD τ).loc main_arg1)) (m ((c : Thread nD τ).loc main_arg2))
      (m ((c : Thread nD τ).loc main_arg3) ix0) r n := by
    intro r n
    unfold Pipeline.afterTail₀
    have e0 : Pipeline.withArrays (cfgs 0).spec c (V0 m c) (fun w => (dats m 0 c).arrAt w (cfgs 0).N) (Proc.devRef .tc main_arg0)
        = m ((c : Thread nD τ).loc main_arg0) :=
      (Pipeline.withArrays_of_ne _ c (V0 m c) _ main_arg0 (by exact (by decide : ∀ w, Pipeline.arrRef spec0 w ≠ main_arg0))).trans (V_main_arg0 m c)
    have e3 : Pipeline.withArrays (cfgs 0).spec c (V0 m c) (fun w => (dats m 0 c).arrAt w (cfgs 0).N) (Proc.devRef .tc main_arg3)
        = m ((c : Thread nD τ).loc main_arg3) :=
      (Pipeline.withArrays_of_ne _ c (V0 m c) _ main_arg3 (by exact (by decide : ∀ w, Pipeline.arrRef spec0 w ≠ main_arg3))).trans (V_main_arg3 m c)
    have e7 : Pipeline.withArrays (cfgs 0).spec c (V0 m c) (fun w => (dats m 0 c).arrAt w (cfgs 0).N) (Proc.devRef .tc main_v7)
        = V0 m c (Proc.devRef .tc main_v7) :=
      Pipeline.withArrays_of_ne _ c (V0 m c) _ main_v7 (by exact (by decide : ∀ w, Pipeline.arrRef spec0 w ≠ main_v7))
    have e8 : Pipeline.withArrays (cfgs 0).spec c (V0 m c) (fun w => (dats m 0 c).arrAt w (cfgs 0).N) (Proc.devRef .tc main_v8)
        = m ((c : Thread nD τ).loc main_arg2) :=
      (Pipeline.withArrays_arr (cfgs 0).spec (by decide) c (V0 m c) (fun w => (dats m 0 c).arrAt w (cfgs 0).N) 1).trans (region m c)
    generalize Pipeline.withArrays (cfgs 0).spec c (V0 m c) (fun w => (dats m 0 c).arrAt w (cfgs 0).N) = W at e0 e3 e7 e8 ⊢
    have h := tail_at W (m ((c : Thread nD τ).loc main_arg1)) (fun t k n => by rw [e7]; exact codes m c t k n) r n
    rw [e0, e3, e8] at h
    exact h
  funext y
  have hy : y = ix3 (y 0) 0 (y 2) := by
    funext a
    fin_cases a
    · rfl
    · exact Subsingleton.elim (α := Fin 1) _ _
    · rfl
  have h := hh (y 0) (y 2)
  exact (congrArg _ hy).trans h

end Cert.ReferenceIdeal.Value

end
-- ==== Proof.Algebraic.lean ====
/-
  The idealized kernel and the reference leave the same result: the linear layer's element at every row and column.
-/
module

public import proofs.«01_k».proof.Defs
public import proofs.«01_k».proof.Proof.Array
public import proofs.«01_k».proof.Proof.Ref
public import proofs.«01_k».proof.Proof.Gen.KernelIdeal
public import proofs.«01_k».proof.Proof.Gen.ReferenceIdeal

@[expose] public section

set_option maxRecDepth 16384

noncomputable section

namespace Cert.Proof

open Idealize.ShloMosaic Idealize.SL.Sem Idealize.ShloMosaic.TcCoe

section Kernel
open Cert.KernelIdeal Cert.KernelIdeal.Gen

/-- The kernel's result, over its argument arrays: the region's array, its middle axis of size one put back. -/
theorem kernel_result (m : (ℓ : Loc nD τ sig) → Buf (Elt Ideal) ℓ) (c : Dev nD) :
    Pipeline.afterTail₀ cfgs (dats m) 0 (V0 m) [hostOps1] c main_v3 = fun y : S6144x1x12288.Idx =>
      Cert.KernelIdeal.Value.lin (m ((c : Thread nD τ).loc main_arg0)) (m ((c : Thread nD τ).loc main_arg1)) (m ((c : Thread nD τ).loc main_arg2))
        (m ((c : Thread nD τ).loc main_arg3) ix0) (y 0) (y 2) := by
  unfold Pipeline.afterTail₀
  have e2 : Pipeline.withArrays (cfgs 0).spec c (V0 m c) (fun w => (dats m 0 c).arrAt w (cfgs 0).N) (Proc.devRef .tc main_v2)
      = (dats m 0 c).arrAt 4 cfg0.N :=
    Pipeline.withArrays_arr (cfgs 0).spec (by decide) c (V0 m c) (fun w => (dats m 0 c).arrAt w (cfgs 0).N) 4
  rw [Cert.KernelIdeal.Value.final m c] at e2
  generalize Pipeline.withArrays (cfgs 0).spec c (V0 m c) (fun w => (dats m 0 c).arrAt w (cfgs 0).N) = W at e2 ⊢
  simp only [hostOps1, List.flatten_cons, List.flatten_nil, List.append_nil, StableHlo.after_cons, StableHlo.after_nil]
  after_results_simp
  rw [e2]
  funext y
  pointwise

end Kernel

/-- Equal arguments leave the two programs with equal results, element by element at the ideal reading. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
    · exact Cert.KernelIdeal.Gen.W_main_arg0 m (Cert.KernelIdeal.Gen.dats m) c
    · exact Cert.KernelIdeal.Gen.W_main_arg3 m (Cert.KernelIdeal.Gen.dats m) c
  · run_from Cert.ReferenceIdeal.Gen.run_main m' g'
    · obtain ⟨h0, h1, h2, h3⟩ := hagree c
      refine (Cert.ReferenceIdeal.Value.result m' c).trans (Eq.trans ?_ (kernel_result m c).symm)
      rw [h0, h1, h2, h3]
      rfl
    · exact (Cert.ReferenceIdeal.Gen.W_main_arg0 m' (Cert.ReferenceIdeal.Gen.dats m') c).trans (hagree c).1
    · exact (Cert.ReferenceIdeal.Gen.W_main_arg1 m' (Cert.ReferenceIdeal.Gen.dats m') c).trans (hagree c).2.1
    · exact (Cert.ReferenceIdeal.Gen.W_main_arg3 m' (Cert.ReferenceIdeal.Gen.dats m') c).trans (hagree c).2.2.2

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Algebraic
public import Idealize.ShloMosaic.Lib.Bf16Pair
public import Idealize.ShloMosaic.Lib.Bf16PairInverse

@[expose] public section

noncomputable section

namespace Cert.Proof

open Idealize.ShloMosaic Idealize.SL.Sem

/-- Every rewrite of the idealized kernel's ledger, as the statement of its rule at the site's shapes. -/
theorem preserves : Cert.preserves_Kernel_KernelIdeal :=
  ⟨IdealRules.bf16_pair.bufferStatement Cert.KernelIdeal.S256x2x1024 Cert.KernelIdeal.S256x1x1024,
   IdealRules.bf16_pair.packStatement Cert.KernelIdeal.S256x1024,
   IdealRules.bf16_pair.statement Cert.KernelIdeal.S256x2x1024 Cert.KernelIdeal.S256x1x1024,
   IdealRules.bf16_pair.statement Cert.KernelIdeal.S1x2x1024 Cert.KernelIdeal.S1x1x1024,
   IdealRules.bf16_pair.statement Cert.KernelIdeal.S16x1024 Cert.KernelIdeal.S8x1024⟩

/-- The certificate's claim, conjunct by conjunct. -/
theorem claim : Cert.Claim :=
  ⟨Cert.Kernel.Gen.facts, Cert.KernelIdeal.Gen.facts, Cert.ReferenceIdeal.Gen.facts,
   fun m ρ _ => Cert.Kernel.Gen.frame m ρ,
   fun m ρ _ => Cert.KernelIdeal.Gen.frame m ρ,
   fun m ρ _ => Cert.ReferenceIdeal.Gen.frame m ρ,
   preserves, algebraic⟩

end Cert.Proof

end
